-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "half_log_2pi" .f32 0x3F6B3F8E#32 (((1 / 2) * (Real.log (2 * (13176795 / 4194304))) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg_log2e" .f32 0xBFB8AA3B#32 ((-((Real.log 2)⁻¹) : ℝ) : EReal)
  ∧ IdealRules.named_const.Statement Cert.KernelIdeal.κ "two_log2e" .f32 0x4038AA3B#32 ((2 * (Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x64 : Shape := ⟨2, ![4096, 64]⟩
abbrev S128x64 : Shape := ⟨2, ![128, 64]⟩
abbrev S128x1x1 : Shape := ⟨3, ![128, 1, 1]⟩
abbrev S_ : Shape := ⟨0, ![]⟩

class Facts : Prop where
  bcast_S_S4096x64 : S_.BroadcastsInDim S4096x64 (![] : Fin 0 → Fin S4096x64.rank)
  bcast_S_S128x64 : S_.BroadcastsInDim S128x64 (![] : Fin 0 → Fin S128x64.rank)

variable [Facts]

def fn {F : FTy → Type} [FloatOps F] (main_arg0 : FVec F S4096x64 .f32) (main_arg1 : FVec F S128x64 .f32) (main_arg2 : FVec F S128x64 .f32) (main_arg3 : FVec F S128x1x1 .f32) : IVec S4096x64 1 × IVec S128x64 1 × IVec S128x64 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_v3 : FVec F S128x64 .f32 := Host.absf main_arg1
  let main_cst_0 : FVec F S_ .f32 := constant S_ .f32 0x7F800000#32
  let main_v4 : FVec F S128x64 .f32 := broadcastInDim S128x64 ![] bcast_S_S128x64 main_cst_0
  let main_v5 : IVec S128x64 1 := cmpf .olt main_v3 main_v4
  let main_v6 : FVec F S128x64 .f32 := Host.absf main_arg2
  let main_cst_1 : FVec F S_ .f32 := constant S_ .f32 0x7F800000#32
  let main_v7 : FVec F S128x64 .f32 := broadcastInDim S128x64 ![] bcast_S_S128x64 main_cst_1
  let main_v8 : IVec S128x64 1 := cmpf .olt main_v6 main_v7
  (main_v2, main_v5, main_v8)
-- ==== Kernel.lean ====
abbrev S4096x64 : Shape := ⟨2, ![4096, 64]⟩
abbrev S128x64 : Shape := ⟨2, ![128, 64]⟩
abbrev S128x1x1 : Shape := ⟨3, ![128, 1, 1]⟩
abbrev S64x128 : Shape := ⟨2, ![64, 128]⟩
abbrev S128 : Shape := ⟨1, ![128]⟩
abbrev S64x2x1 : Shape := ⟨3, ![64, 2, 1]⟩
abbrev S64x2x64 : Shape := ⟨3, ![64, 2, 64]⟩
abbrev S1x128 : Shape := ⟨2, ![1, 128]⟩
abbrev S64x4096 : Shape := ⟨2, ![64, 4096]⟩
abbrev S1024x64 : Shape := ⟨2, ![1024, 64]⟩
abbrev S64x1024 : Shape := ⟨2, ![64, 1024]⟩
abbrev S1x1x128 : Shape := ⟨3, ![1, 1, 128]⟩
abbrev S1 : Shape := ⟨1, ![1]⟩
abbrev S1x1x1 : Shape := ⟨3, ![1, 1, 1]⟩
abbrev S1x64 : Shape := ⟨2, ![1, 64]⟩
abbrev S128x128 : Shape := ⟨2, ![128, 128]⟩

abbrev nBuf : Space → Nat
  | .hbm => 12
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S128x64, .f32⟩
  | .hbm, ⟨2, _⟩ => ⟨S128x64, .f32⟩
  | .hbm, ⟨3, _⟩ => ⟨S128x1x1, .f32⟩
  | .hbm, ⟨4, _⟩ => ⟨S64x128, .f32⟩
  | .hbm, ⟨5, _⟩ => ⟨S64x128, .f32⟩
  | .hbm, ⟨6, _⟩ => ⟨S128, .f32⟩
  | .hbm, ⟨7, _⟩ => ⟨S64x2x1, .f32⟩
  | .hbm, ⟨8, _⟩ => ⟨S64x2x64, .f32⟩
  | .hbm, ⟨9, _⟩ => ⟨S64x128, .f32⟩
  | .hbm, ⟨10, _⟩ => ⟨S1x128, .f32⟩
  | .hbm, ⟨11, _⟩ => ⟨S64x4096, .f32⟩
  | .local _ .vmem, ⟨0, _⟩ => ⟨S1024x64, .f32⟩
  | .local _ .vmem, ⟨1, _⟩ => ⟨S1024x64, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S1x128, .f32⟩
  | .local _ .vmem, ⟨6, _⟩ => ⟨S64x1024, .f32⟩
  | .local _ .vmem, ⟨7, _⟩ => ⟨S64x1024, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "half_log_2pi" => some (((1 / 2) * (Real.log (2 * (13176795 / 4194304))) : ℝ) : EReal)
  | "ln2" => some ((Real.log 2 : ℝ) : EReal)
  | "log2e" => some (((Real.log 2)⁻¹ : ℝ) : EReal)
  | "neg_log2e" => some ((-((Real.log 2)⁻¹) : ℝ) : EReal)
  | "two_log2e" => some ((2 * (Real.log 2)⁻¹ : ℝ) : EReal)
  | _ => none
-- ==== ReferenceIdeal.lean ====
abbrev S4096x64 : Shape := ⟨2, ![4096, 64]⟩
abbrev S128x64 : Shape := ⟨2, ![128, 64]⟩
abbrev S128x1x1 : Shape := ⟨3, ![128, 1, 1]⟩
abbrev S_ : Shape := ⟨0, ![]⟩
abbrev S1x1 : Shape := ⟨2, ![1, 1]⟩
abbrev S1x1x1 : Shape := ⟨3, ![1, 1, 1]⟩
abbrev S1x4096x64 : Shape := ⟨3, ![1, 4096, 64]⟩
abbrev S128x1x64 : Shape := ⟨3, ![128, 1, 64]⟩
abbrev S128x4096x64 : Shape := ⟨3, ![128, 4096, 64]⟩
abbrev S64x4096 : Shape := ⟨2, ![64, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S128x64, .f32⟩
  | .hbm, ⟨2, _⟩ => ⟨S128x64, .f32⟩
  | .hbm, ⟨3, _⟩ => ⟨S128x1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x1x1, .f32⟩
  | .hbm, ⟨10, _⟩ => ⟨S128x1x1, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S1x1, .f32⟩
  | .hbm, ⟨15, _⟩ => ⟨S1x1x1, .f32⟩
  | .hbm, ⟨16, _⟩ => ⟨S128x1x1, .f32⟩
  | .hbm, ⟨17, _⟩ => ⟨S128x1x1, .f32⟩
  | .hbm, ⟨18, _⟩ => ⟨S1x4096x64, .f32⟩
  | .hbm, ⟨19, _⟩ => ⟨S128x1x64, .f32⟩
  | .hbm, ⟨20, _⟩ => ⟨S128x1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x1x64, .f32⟩
  | .hbm, ⟨29, _⟩ => ⟨S128x1x64, .f32⟩
  | .hbm, ⟨30, _⟩ => ⟨S128x1x64, .f32⟩
  | .hbm, ⟨31, _⟩ => ⟨S128x1x64, .f32⟩
  | .hbm, ⟨32, _⟩ => ⟨S128x1x64, .f32⟩
  | .hbm, ⟨33, _⟩ => ⟨S128x1x64, .f32⟩
  | .hbm, ⟨34, _⟩ => ⟨S_, .f32⟩
  | .hbm, ⟨35, _⟩ => ⟨S128x1x64, .f32⟩
  | .hbm, ⟨36, _⟩ => ⟨S128x1x64, .f32⟩
  | .hbm, ⟨37, _⟩ => ⟨S128x4096x64, .f32⟩
  | .hbm, ⟨38, _⟩ => ⟨S128x4096x64, .f32⟩
  | .hbm, ⟨39, _⟩ => ⟨S128x4096x64, .f32⟩
  | .hbm, ⟨40, _⟩ => ⟨S_, .f32⟩
  | .hbm, ⟨41, _⟩ => ⟨S128x4096x64, .f32⟩
  | .hbm, ⟨42, _⟩ => ⟨S128x4096x64, .f32⟩
  | .hbm, ⟨43, _⟩ => ⟨S128x4096x64, .f32⟩
  | .hbm, ⟨44, _⟩ => ⟨S128x4096x64, .f32⟩
  | .hbm, ⟨45, _⟩ => ⟨S128x4096x64, .f32⟩
  | .hbm, ⟨46, _⟩ => ⟨S128x4096x64, .f32⟩
  | .hbm, ⟨47, _⟩ => ⟨S128x1x1, .f32⟩
  | .hbm, ⟨48, _⟩ => ⟨S128x4096x64, .f32⟩
  | .hbm, ⟨49, _⟩ => ⟨S128x4096x64, .f32⟩
  | .hbm, ⟨50, _⟩ => ⟨S_, .f32⟩
  | .hbm, ⟨51, _⟩ => ⟨S4096x64, .f32⟩
  | .hbm, ⟨52, _⟩ => ⟨S4096x64, .f32⟩
  | .hbm, ⟨53, _⟩ => ⟨S_, .f32⟩
  | .hbm, ⟨54, _⟩ => ⟨S4096x64, .f32⟩
  | .hbm, ⟨55, _⟩ => ⟨S4096x64, .i1⟩
  | .hbm, ⟨56, _⟩ => ⟨S_, .f32⟩
  | .hbm, ⟨57, _⟩ => ⟨S_, .f32⟩
  | .hbm, ⟨58, _⟩ => ⟨S4096x64, .f32⟩
  | .hbm, ⟨59, _⟩ => ⟨S4096x64, .f32⟩
  | .hbm, ⟨60, _⟩ => ⟨S1x4096x64, .f32⟩
  | .hbm, ⟨61, _⟩ => ⟨S128x4096x64, .f32⟩
  | .hbm, ⟨62, _⟩ => ⟨S128x4096x64, .f32⟩
  | .hbm, ⟨63, _⟩ => ⟨S128x4096x64, .f32⟩
  | .hbm, ⟨64, _⟩ => ⟨S_, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S64x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_call0_v0 : Ref sig .tc := ⟨.hbm, 57, rfl⟩
abbrev main_call0_v1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Chunk.lean ====
/- The kernel's body as eight row chunks of one shape: what one grid point stores, written with a recursion in place of the
   printed unrolled sums. -/
module

public import proofs.«01_k».proof.Proof.Gen.KernelIdeal.Frame

@[expose] public section

noncomputable section

namespace Cert.KernelIdeal.Chunk

open Cert.KernelIdeal Cert.KernelIdeal.Gen Idealize.ShloMosaic

variable {F : FTy → Type} [FloatOps F] [Named F]

/-- Row `p` of a 64-row table is a slice of it. -/
theorem slices_row (p : ℕ) (h : p < 64) : S64x128.Slices ![p, 0] S1x128 :=
  ⟨rfl, fun a => by
    match a with
    | ⟨0, _⟩ => show p + 1 ≤ 64; omega
    | ⟨1, _⟩ => show 0 + 128 ≤ 128; omega⟩

/-- Row `p` of a 64-row table, repeated down 128 rows. -/
def row (q : FVec F S64x128 .f32) (p : ℕ) (h : p < 64) : FVec F S128x128 .f32 :=
  broadcastTo S128x128 (extractStridedSlice S1x128 ![p, 0] q (slices_row p h)) broadcasts_S1x128_S128x128

/-- The term of pair `p`: two to the power of the quadratic in `zd` whose coefficients are row `p` of the three tables. -/
def term (q2 q1 q0 : FVec F S64x128 .f32) (zd : FVec F S128x128 .f32) (p : ℕ) (h : p < 64) : FVec F S128x128 .f32 :=
  exp2 (addf (row q0 p h) (mulf zd (addf (row q1 p h) (mulf zd (row q2 p h)))))

/-- The running sum of the first `n` terms, from zero, in the kernel's order. -/
def acc (q2 q1 q0 : FVec F S64x128 .f32) (zd : FVec F S128x128 .f32) : (n : ℕ) → n ≤ 64 → FVec F S128x128 .f32
  | 0, _ => broadcast S128x128 (Scalar.ofBits .f32 0x00000000#32)
  | n + 1, h => addf (acc q2 q1 q0 zd n (Nat.le_of_succ_le h)) (term q2 q1 q0 zd n h)

/-- The two halves of a row of 128, added. -/
def fold (s : FVec F S128x128 .f32) : FVec F S128x64 .f32 :=
  addf (extractStridedSlice S128x64 ![0, 0] s slices_S128x128_o0_0_S128x64)
    (extractStridedSlice S128x64 ![0, 64] s slices_S128x128_o0_64_S128x64)

/-- What is stored from a chunk's sums: `ln 2` times the shift plus the sum's logarithm to base two, transposed. -/
def store (g : FVec F S1x128 .f32) (s : FVec F S128x128 .f32) : FVec F S64x128 .f32 :=
  transpose S64x128 [1, 0]
    (mulf (broadcast S128x64 (Named.named κ "ln2" 0x3F317218#32))
      (addf (broadcastTo S128x64 (extractStridedSlice S1x64 ![0, 0] g slices_S1x128_o0_0_S1x64) broadcasts_S1x64_S128x64)
        (mulf (log (fold s)) (broadcast S128x64 (Named.named κ "log2e" 0x3FB8AA3B#32)))))
    transposes_S128x64_p1_0_S64x128

/-- A chunk of 128 rows of `z`, each row written twice side by side. -/
def twice (zb : FVec F S128x64 .f32) : FVec F S128x128 .f32 :=
  concatenate S128x128 1 [⟨S128x64, zb⟩, ⟨S128x64, zb⟩] concatenates_S128x64_S128x64_S128x128_d1

/-- What one chunk stores. -/
def chunk (g : FVec F S1x128 .f32) (q2 q1 q0 : FVec F S64x128 .f32) (zb : FVec F S128x64 .f32) : FVec F S64x128 .f32 :=
  store g (acc q2 q1 q0 (twice zb) 64 le_rfl)

section
variable (x0 : Vec F S1024x64 .f32) (x1 x2 x3 : Vec F S64x128 .f32) (x4 : Vec F S1x128 .f32)

/-- What a grid point stores from 128 rows of its block of `z`. -/
abbrev stored (zb : FVec F S128x64 .f32) : FVec F S64x128 .f32 :=
  chunk (k0_pay446 x0 x1 x2 x3 x4) (k0_pay448 x0 x1 x2 x3 x4) (k0_pay449 x0 x1 x2 x3 x4) (k0_pay450 x0 x1 x2 x3 x4) zb

set_option maxRecDepth 100000 in
/-- A grid point's block is the eight chunks side by side. -/
theorem out_eq :
    out0_5 x0 x1 x2 x3 x4 = View.canon
      [⟨r0_17, stored x0 x1 x2 x3 x4 (View.ld x0 r0_16)⟩, ⟨r0_15, stored x0 x1 x2 x3 x4 (View.ld x0 r0_14)⟩,
        ⟨r0_13, stored x0 x1 x2 x3 x4 (View.ld x0 r0_12)⟩, ⟨r0_11, stored x0 x1 x2 x3 x4 (View.ld x0 r0_10)⟩,
        ⟨r0_9, stored x0 x1 x2 x3 x4 (View.ld x0 r0_8)⟩, ⟨r0_7, stored x0 x1 x2 x3 x4 (View.ld x0 r0_6)⟩,
        ⟨r0_5, stored x0 x1 x2 x3 x4 (View.ld x0 r0_4)⟩, ⟨r0_3, stored x0 x1 x2 x3 x4 (View.ld x0 r0_2)⟩] := rfl

end

end Cert.KernelIdeal.Chunk

end
-- ==== Proof.Mixture.lean ====
/- The mathematics both programs compute: the log-density of a mixture of diagonal Gaussians at one coordinate, and the facts
   about extended reals that keep every intermediate value a real number, or `-∞` where a component has the weight `-∞`. -/
module

public import Idealize.ShloMosaic.PureOps.Ideal.Laws

@[expose] public section

noncomputable section

namespace Cert.Mixture

open Idealize.ShloMosaic

/-! ## Extended reals that are real numbers -/

/-- A finite sum of real numbers, taken in the extended reals, is the real sum. -/
theorem sum_coe {ι : Type} (s : Finset ι) (f : ι → ℝ) : ∑ i ∈ s, ((f i : ℝ) : EReal) = ((∑ i ∈ s, f i : ℝ) : EReal) :=
  (map_sum (⟨⟨((↑·) : ℝ → EReal), EReal.coe_zero⟩, EReal.coe_add⟩ : ℝ →+ EReal) f s).symm

/-- The larger of two real numbers is taken alike in the reals and the extended reals. -/
theorem max_coe (a b : ℝ) : max (a : EReal) (b : EReal) = ((max a b : ℝ) : EReal) :=
  (EReal.coe_strictMono.monotone.map_max).symm

/-- A real number divided by a nonzero real number is the real quotient. -/
theorem div_coe (a : ℝ) {b : ℝ} (h : b ≠ 0) : Ideal.div a b = ((a / b : ℝ) : EReal) := by
  rw [Ideal.div_coe h, ← EReal.coe_mul, mul_one_div]

/-- The logarithm of a positive real number is the real logarithm. -/
theorem log_coe {r : ℝ} (h : 0 < r) : Ideal.log r = (Real.log r : EReal) := if_neg (not_le.mpr h)

/-- An extended real whose absolute value is below `+∞` is a real number. -/
theorem real_of_abs_lt_top {x : EReal} (h : max x (-x) < ⊤) : ∃ r : ℝ, x = r := by
  induction x with
  | bot => simp at h
  | top => simp at h
  | coe r => exact ⟨r, rfl⟩

/-- The comparison "less than" answers the word one exactly where it holds. -/
theorem cmp_olt {x y : EReal} : Ideal.cmp .olt x y = 1#1 ↔ x < y := by
  by_cases h : x < y <;> simp [Ideal.cmp, h]

/-! ## Real numbers that may be missing

A component of weight `-∞` is missing from the mixture: its logarithm is `-∞` and its exponential zero. -/

/-- The real number `r` where `b` is true, and `-∞` where it is not. -/
def opt (b : Bool) (r : ℝ) : EReal := bif b then (r : EReal) else ⊥

/-- The real number `r` where `b` is true, and zero where it is not. -/
def ind (b : Bool) (r : ℝ) : ℝ := bif b then r else 0

/-- Adding a real number keeps what is missing missing. -/
theorem opt_add (b : Bool) (r a : ℝ) : opt b r + (a : EReal) = opt b (r + a) := by
  cases b
  · exact EReal.bot_add _
  · exact (EReal.coe_add _ _).symm

/-- Adding to a real number keeps what is missing missing. -/
theorem add_opt (b : Bool) (r a : ℝ) : (a : EReal) + opt b r = opt b (a + r) := by
  rw [add_comm, opt_add, add_comm r]

/-- Taking a real number away keeps what is missing missing. -/
theorem opt_sub (b : Bool) (r a : ℝ) : opt b r - (a : EReal) = opt b (r - a) := by
  rw [sub_eq_add_neg, ← EReal.coe_neg, opt_add, sub_eq_add_neg]

/-- A positive factor keeps what is missing missing. -/
theorem mul_opt (b : Bool) (r : ℝ) {a : ℝ} (h : 0 < a) : (a : EReal) * opt b r = opt b (a * r) := by
  cases b
  · exact EReal.coe_mul_bot_of_pos h
  · exact (EReal.coe_mul _ _).symm

/-- The exponential of what is missing is zero. -/
theorem exp_opt (b : Bool) (r : ℝ) : Ideal.exp (opt b r) = (ind b (Real.exp r) : EReal) := by
  cases b <;> rfl

/-- Two to the power of what is missing is zero. -/
theorem exp2_opt (b : Bool) (r : ℝ) : Ideal.exp2 (opt b r) = (ind b (Real.rpow 2 r) : EReal) := by
  cases b <;> rfl

/-- The logarithm of a number that is zero where it is missing. -/
theorem log_ind (b : Bool) {r : ℝ} (h : 0 < r) : Ideal.log (ind b r : EReal) = opt b (Real.log r) := by
  cases b
  · exact if_pos le_rfl
  · exact log_coe h

/-- The larger of two numbers that may be missing is missing only where both are. -/
theorem max_opt (b c : Bool) (r a : ℝ) : ∃ q : ℝ, max (opt b r) (opt c a) = opt (b || c) q := by
  cases b <;> cases c
  · exact ⟨0, max_self _⟩
  · exact ⟨a, max_eq_right bot_le⟩
  · exact ⟨r, max_eq_left bot_le⟩
  · exact ⟨max r a, max_coe r a⟩

/-- The maximum, from `-∞`, of finitely many numbers that may be missing; it is there where one of them is. -/
theorem fold_max_opt {ι : Type} (s : Finset ι) (b : ι → Bool) (f : ι → ℝ) :
    ∃ (c : Bool) (q : ℝ), s.fold max (⊥ : EReal) (fun i => opt (b i) (f i)) = opt c q ∧ ∀ i ∈ s, b i = true → c = true := by
  classical
  induction s using Finset.cons_induction with
  | empty => exact ⟨false, 0, rfl, fun i hi => absurd hi (Finset.notMem_empty i)⟩
  | cons a s ha ih =>
    obtain ⟨c, q, hq, hc⟩ := ih
    obtain ⟨p, hp⟩ := max_opt (b a) c (f a) q
    refine ⟨b a || c, p, by rw [Finset.fold_cons, hq, hp], fun i hi hb => ?_⟩
    rcases Finset.mem_cons.mp hi with rfl | hi
    · rw [hb, Bool.true_or]
    · rw [hc i hi hb, Bool.or_true]

/-- The maximum, from `-∞`, of finitely many numbers of which one is not missing is a real number. -/
theorem fold_max_real {ι : Type} [Fintype ι] {b : ι → Bool} (hb : ∃ i, b i = true) (f : ι → ℝ) :
    ∃ r : ℝ, Finset.univ.fold max (⊥ : EReal) (fun i => opt (b i) (f i)) = (r : EReal) := by
  obtain ⟨i, hi⟩ := hb
  obtain ⟨c, q, hq, hc⟩ := fold_max_opt Finset.univ b f
  exact ⟨q, by rw [hq, hc i (Finset.mem_univ i) hi]; rfl⟩

/-! ## Weights that are no weights -/

/-- Weights of which one is `+∞`, or all are `-∞`: they have no softmax. -/
def Degenerate {ι : Type} (x : ι → EReal) : Prop := (∃ k, x k = ⊤) ∨ ∀ k, x k = ⊥

/-- Which components are in the mixture. -/
def live (x : Fin 128 → EReal) (k : Fin 128) : Bool := by
  classical exact decide (x k ≠ ⊥)

/-- Weights that have a softmax are real numbers some of which, not all, may be missing. -/
theorem weights_cases (x : Fin 128 → EReal) :
    Degenerate x ∨ (¬ Degenerate x ∧ (∃ k, live x k = true) ∧ ∀ k, x k = opt (live x k) (x k).toReal) := by
  by_cases h : Degenerate x
  · exact Or.inl h
  refine Or.inr ⟨h, ?_, fun k => ?_⟩
  · by_contra hn
    exact h (Or.inr fun k => by_contra fun hk => hn ⟨k, by simpa [live] using hk⟩)
  · by_cases hk : x k = ⊥
    · simp [live, opt, hk]
    · simp only [live, hk, opt, ne_eq, not_false_eq_true, decide_true, cond_true]
      exact (EReal.coe_toReal (fun ht => h (Or.inl ⟨k, ht⟩)) hk).symm

/-- An extended real less `+∞` is `-∞`. -/
theorem sub_top (x : EReal) : x - ⊤ = ⊥ := by rw [sub_eq_add_neg, EReal.neg_top, EReal.add_bot]

/-- Weights without a softmax, less their maximum, are all `-∞`. -/
theorem sub_fold_max {ι : Type} [Fintype ι] {x : ι → EReal} (h : Degenerate x) (k : ι) :
    x k - Finset.univ.fold max ⊥ x = ⊥ := by
  rcases h with ⟨i, hi⟩ | h
  · have ht : Finset.univ.fold max ⊥ x = ⊤ := top_le_iff.mp ((Finset.le_fold_max _).mpr (Or.inr ⟨i, Finset.mem_univ i, hi.ge⟩))
    rw [ht, sub_top]
  · rw [h k, sub_eq_add_neg, EReal.bot_add]

/-- The maximum, from `-∞`, of infinite numbers is infinite. -/
theorem fold_max_infinite {ι : Type} (s : Finset ι) {x : ι → EReal} (h : ∀ k, x k = ⊥ ∨ x k = ⊤) :
    s.fold max ⊥ x = ⊥ ∨ s.fold max ⊥ x = ⊤ := by
  classical
  induction s using Finset.cons_induction with
  | empty => exact Or.inl rfl
  | cons a s ha ih =>
    rw [Finset.fold_cons]
    rcases h a with h | h
    · rw [h, max_eq_right bot_le]
      exact ih
    · rw [h, max_eq_left le_top]
      exact Or.inr rfl

/-- The logarithm of zero is `-∞`. -/
theorem log_zero : Ideal.log 0 = ⊥ := if_pos (le_refl (0 : ℝ))

/-! ## The words of the constants -/

/-- The word 0xFF800000 is `-∞`. -/
theorem bits_neg_inf : Ideal.ofBits .f32 0xFF800000#32 = ⊥ := by simp [Ideal.ofBits, Ideal.ieee]

/-- The word 0x7F800000 is `+∞`. -/
theorem bits_inf : Ideal.ofBits .f32 0x7F800000#32 = ⊤ := by simp [Ideal.ofBits, Ideal.ieee]

/-- The word 0x3F000000 is one half. -/
theorem bits_half : Ideal.ofBits .f32 0x3F000000#32 = ((1 / 2 : ℝ) : EReal) := by
  simp [Ideal.ofBits, Ideal.ieee]; norm_num; rw [← EReal.coe_mul]; norm_num

/-- The word 0xBF000000 is minus one half. -/
theorem bits_neg_half : Ideal.ofBits .f32 0xBF000000#32 = ((-(1 / 2) : ℝ) : EReal) := by
  simp [Ideal.ofBits, Ideal.ieee]; norm_num; rw [← EReal.coe_mul]; norm_num

/-- The word 0x40000000 is two. -/
theorem bits_two : Ideal.ofBits .f32 0x40000000#32 = ((2 : ℝ) : EReal) := by
  simp [Ideal.ofBits, Ideal.ieee]; norm_num; rw [← EReal.coe_mul]; norm_num

/-- The word 0x40490FDB is 13176795 / 4194304, the float32 nearest `π`. -/
theorem bits_pi : Ideal.ofBits .f32 0x40490FDB#32 = ((13176795 / 4194304 : ℝ) : EReal) := by
  simp [Ideal.ofBits, Ideal.ieee]; norm_num; rw [← EReal.coe_mul]; norm_num

/-! ## The mixture -/

/-- Half the logarithm of `2π`, at the float32 value of `π` the reference is written with. -/
def halfLogTwoPi : ℝ := 1 / 2 * Real.log (2 * (13176795 / 4194304))

/-- The logarithm of component `k`'s weight, among the components `on`: its log-softmax. -/
def logWeight (on : Fin 128 → Bool) (w : Fin 128 → ℝ) (k : Fin 128) : ℝ := w k - Real.log (∑ j, ind (on j) (Real.exp (w j)))

/-- One component's logarithm at `z`: mean `m`, log-variance `v`, log-weight `lw`. -/
def term (z m v lw : ℝ) : ℝ := lw - halfLogTwoPi - 1 / 2 * v - 1 / 2 * Real.exp (-v) * (z - m) ^ 2

/-- The log-density at one coordinate of the mixture of the components `on`. -/
def logDensity (on : Fin 128 → Bool) (z : ℝ) (m v w : Fin 128 → ℝ) : ℝ :=
  Real.log (∑ k, ind (on k) (Real.exp (term z (m k) (v k) (logWeight on w k))))

open Classical in
/-- The log-density at one coordinate from any weights `x`: `-∞` where they have no softmax, and else that of the mixture of
    the components whose weight is not `-∞`. -/
def density (z : ℝ) (m v : Fin 128 → ℝ) (x : Fin 128 → EReal) : EReal :=
  if Degenerate x then ⊥ else (logDensity (live x) z m v (fun k => (x k).toReal) : EReal)

/-- A sum of exponentials of which one is not missing is positive. -/
theorem sum_exp_pos {ι : Type} [Fintype ι] {on : ι → Bool} (h : ∃ k, on k = true) (f : ι → ℝ) :
    0 < ∑ i, ind (on i) (Real.exp (f i)) := by
  obtain ⟨k, hk⟩ := h
  refine Finset.sum_pos' (fun i _ => ?_) ⟨k, Finset.mem_univ k, ?_⟩
  · cases hb : on i
    · exact le_rfl
    · exact (Real.exp_pos _).le
  · rw [hk]
    exact Real.exp_pos _

/-- The logarithm of a sum of exponentials does not depend on a shift taken out of every exponent and added back. -/
theorem log_sum_exp_shift {ι : Type} [Fintype ι] {on : ι → Bool} (hon : ∃ k, on k = true) (f : ι → ℝ) (m : ℝ) :
    Real.log (∑ i, ind (on i) (Real.exp (f i - m))) + m = Real.log (∑ i, ind (on i) (Real.exp (f i))) := by
  have h : ∑ i, ind (on i) (Real.exp (f i - m)) = (∑ i, ind (on i) (Real.exp (f i))) * Real.exp (-m) := by
    rw [Finset.sum_mul]
    refine Finset.sum_congr rfl fun i _ => ?_
    cases on i
    · exact (zero_mul _).symm
    · exact (congrArg Real.exp (sub_eq_add_neg _ _)).trans (Real.exp_add _ _)
  rw [h, Real.log_mul (sum_exp_pos hon f).ne' (Real.exp_pos _).ne', Real.log_exp, neg_add_cancel_right]

/-- The logarithm of a softmax weight, shifted by any `m`, is the log-weight. -/
theorem log_softmax {on : Fin 128 → Bool} (hon : ∃ k, on k = true) (w : Fin 128 → ℝ) (m : ℝ) (k : Fin 128) :
    Ideal.log (Ideal.div (ind (on k) (Real.exp (w k - m)) : EReal)
      ((∑ j, ind (on j) (Real.exp (w j - m)) : ℝ) : EReal)) = opt (on k) (logWeight on w k) := by
  have hs := sum_exp_pos hon fun j => w j - m
  have hd : ind (on k) (Real.exp (w k - m)) / ∑ j, ind (on j) (Real.exp (w j - m))
      = ind (on k) (Real.exp (w k - m) / ∑ j, ind (on j) (Real.exp (w j - m))) := by
    cases on k
    · exact zero_div _
    · rfl
  rw [div_coe _ hs.ne', hd, log_ind _ (div_pos (Real.exp_pos _) hs), Real.log_div (Real.exp_pos _).ne' hs.ne', Real.log_exp,
    logWeight, ← log_sum_exp_shift hon w m, sub_sub, add_comm m]

/-- The reference's terms are the mixture's. -/
theorem term_eq (z m v lw : ℝ) :
    -(1 / 2) * Real.log (2 * (13176795 / 4194304)) - 1 / 2 * v - 1 / 2 * Real.exp (-v) * Real.rpow (z - m) 2 + lw
      = term z m v lw := by
  rw [show Real.rpow (z - m) 2 = (z - m) ^ 2 from Real.rpow_two _, term, halfLogTwoPi]
  ring

/-- Two to the power of the kernel's quadratic in `z`, the shift `s` taken out, is the exponential of the mixture's term less
    the shift. -/
theorem two_rpow_quadratic (z m v lw s : ℝ) :
    Real.rpow 2 ((Real.log 2)⁻¹ * (lw - halfLogTwoPi - 1 / 2 * v - 1 / 2 * Real.exp (0 - v) * (m * m)) - (Real.log 2)⁻¹ * s
        + z * (2 * (Real.log 2)⁻¹ * (1 / 2 * Real.exp (0 - v) * m) + z * (-(Real.log 2)⁻¹ * (1 / 2 * Real.exp (0 - v)))))
      = Real.exp (term z m v lw - s) := by
  have h2 : Real.log 2 ≠ 0 := (Real.log_pos one_lt_two).ne'
  refine (Real.rpow_def_of_pos two_pos _).trans (congrArg Real.exp ?_)
  rw [term, zero_sub]
  field_simp
  ring

/-- What the kernel stores from a sum `S` and a shift `s`, through logarithms to base two, is `log S + s`. -/
theorem base_two_log (S s : ℝ) :
    Real.log 2 * ((Real.log 2)⁻¹ * s + Real.log S * (Real.log 2)⁻¹) = Real.log S + s := by
  have h2 : Real.log 2 ≠ 0 := (Real.log_pos one_lt_two).ne'
  field_simp
  ring

/-- A sum over 128 components is the sum over 64 pairs of each pair's two. -/
theorem sum_pairs (f : Fin 128 → ℝ) :
    ∑ k, f k = ∑ p : Fin 64, f ⟨2 * p.val, by omega⟩ + ∑ p : Fin 64, f ⟨2 * p.val + 1, by omega⟩ := by
  rw [← Finset.sum_add_distrib, ← (finProdFinEquiv (m := 64) (n := 2)).sum_comp, Fintype.sum_prod_type]
  refine Finset.sum_congr rfl fun p _ => ?_
  rw [Fin.sum_univ_two]
  congr 2 <;> exact Fin.ext (by simp [finProdFinEquiv]; try omega)

end Cert.Mixture

end
-- ==== Proof.Block.lean ====
/- What one grid point stores, at the extended reals and from a real `z`, means and log-variances: at lane `l` and row `b` of its
   block of `z`, the log-density. The kernel lays the 128 components out as 64 pairs, the two of a pair side by side in a row of 128
   lanes: row `p`, lane `j` is coordinate `j % 64` of component `2p + j / 64`. -/
module

public import proofs.«01_k».proof.Proof.Chunk
public import proofs.«01_k».proof.Proof.Mixture
public import Idealize.ShloMosaic.Lib.Pointwise
public import Idealize.ShloMosaic.Lib.Pipeline.ValueKit.Tiles
public import Idealize.ShloMosaic.PureOps.IdealRules

@[expose] public section

noncomputable section

namespace Cert.KernelIdeal.Block

open Cert.KernelIdeal Cert.KernelIdeal.Gen Cert.KernelIdeal.Chunk Cert.Mixture Idealize.ShloMosaic

open Pointwise

/-! ## The named constants -/

/-- The constant named `log2e` is `1 / log 2`. -/
theorem named_log2e : Named.named (F := Ideal) (φ := .f32) κ "log2e" 0x3FB8AA3B#32 = (((Real.log 2)⁻¹ : ℝ) : EReal) :=
  IdealRules.named_const.ideal_named_scalar _ _ _ _ rfl

/-- The constant named `neg_log2e` is `-1 / log 2`. -/
theorem named_neg_log2e : Named.named (F := Ideal) (φ := .f32) κ "neg_log2e" 0xBFB8AA3B#32 = ((-(Real.log 2)⁻¹ : ℝ) : EReal) :=
  IdealRules.named_const.ideal_named_scalar _ _ _ _ rfl

/-- The constant named `two_log2e` is `2 / log 2`. -/
theorem named_two_log2e :
    Named.named (F := Ideal) (φ := .f32) κ "two_log2e" 0x4038AA3B#32 = ((2 * (Real.log 2)⁻¹ : ℝ) : EReal) :=
  IdealRules.named_const.ideal_named_scalar _ _ _ _ rfl

/-- The constant named `ln2` is `log 2`. -/
theorem named_ln2 : Named.named (F := Ideal) (φ := .f32) κ "ln2" 0x3F317218#32 = ((Real.log 2 : ℝ) : EReal) :=
  IdealRules.named_const.ideal_named_scalar _ _ _ _ rfl

/-- The constant named `half_log_2pi` is half the logarithm of `2π`, at the reference's value of `π`. -/
theorem named_half_log_2pi :
    Named.named (F := Ideal) (φ := .f32) κ "half_log_2pi" 0x3F6B3F8E#32 = ((halfLogTwoPi : ℝ) : EReal) :=
  IdealRules.named_const.ideal_named_scalar _ _ _ _ rfl

/-! ## The tables computed once per grid point -/

section Tables

variable (x1 x2 x3 : FVec Ideal S64x128 .f32) (x4 : FVec Ideal S1x128 .f32) (V : Fin 64 → Fin 128 → ℝ)
  (h2 : ∀ p j, x2 (ix2 p j) = (V p j : EReal))

include h2 in
/-- Half the inverse variance. -/
theorem half_precision (p : Fin 64) (j : Fin 128) :
    k0_pay4 (F := Ideal) x2 (ix2 p j) = ((1 / 2 * Real.exp (0 - V p j) : ℝ) : EReal) := by
  pointwise [k0_pay4, k0_pay2]
  rw [h2, bits_half, ← EReal.coe_zero, ← EReal.coe_sub, Ideal.exp_coe, ← EReal.coe_mul]

/-- The lane of a component's coordinate in the other half of the row. -/
def other (j : Fin 128) : Fin 128 := if h : j.val < 64 then ⟨64 + j.val, by omega⟩ else ⟨j.val - 64, by omega⟩

/-- The shifts: the largest entry of a lane and its other lane in the table of logarithms at the means, to base two. -/
theorem shift_apply (a : Fin 1) (j : Fin 128) :
    k0_pay6 (F := Ideal) x4 x2 x3 (ix2 a j)
      = (((Real.log 2)⁻¹ : ℝ) : EReal) * max (Finset.univ.fold max ⊥ fun p => k0_pay5 (F := Ideal) x4 x2 x3 (ix2 p j))
          (Finset.univ.fold max ⊥ fun p => k0_pay5 (F := Ideal) x4 x2 x3 (ix2 p (other j))) := by
  pointwise [k0_pay6]
  simp only [bits_neg_inf, named_log2e]
  unfold other
  split <;> rfl

section Proper

variable {on : Fin 128 → Bool} {w : Fin 128 → ℝ} {b : Fin 64 → Fin 128 → Bool} {W : Fin 64 → Fin 128 → ℝ}
  (hon : ∃ k, on k = true) (h3 : ∀ p j, x3 (ix2 p j) = opt (b p j) (W p j)) (h4 : ∀ a j, x4 (ix2 a j) = opt (on j) (w j))

include h2 hon h3 h4 in
/-- A component's logarithm at its mean. -/
theorem log_peak (p : Fin 64) (j : Fin 128) :
    k0_pay5 (F := Ideal) x4 x2 x3 (ix2 p j)
      = opt (b p j) (W p j - Real.log (∑ k, ind (on k) (Real.exp (w k))) - halfLogTwoPi - 1 / 2 * V p j) := by
  obtain ⟨m, hm⟩ := fold_max_real (b := fun x : Fin 1 × Fin 128 => on x.2) (hon.elim fun k hk => ⟨(0, k), hk⟩) fun x => w x.2
  have hlog : ∀ y : Ideal .f32, Scalar.log y = Ideal.log y := fun _ => rfl
  pointwise [k0_pay5, k0_pay2]
  simp only [h2, h3, h4, bits_neg_inf, bits_half, named_half_log_2pi, hm, hlog, Finset.univ_unique, Finset.sum_singleton,
    opt_sub, exp_opt, sum_coe]
  rw [Mixture.log_coe (sum_exp_pos hon fun k => w k - m), ← EReal.coe_add, add_comm m, log_sum_exp_shift hon w m]
  simp only [opt_sub, ← EReal.coe_mul]

include h2 hon h3 h4 in
/-- The shifts are real numbers where every lane, or its other lane, holds a component that is in the mixture; and they are the
    same in a lane and its other lane. -/
theorem shift (hb : ∀ j, ∃ p, b p j = true ∨ b p (other j) = true) : ∃ s : Fin 128 → ℝ,
    (∀ a j, k0_pay6 (F := Ideal) x4 x2 x3 (ix2 a j) = (((Real.log 2)⁻¹ * s j : ℝ) : EReal))
      ∧ ∀ l : Fin 64, s ⟨l.val, by omega⟩ = s ⟨64 + l.val, by omega⟩ := by
  choose c r hr hc using fun j => fold_max_opt (Finset.univ : Finset (Fin 64)) (fun p => b p j)
    fun p => W p j - Real.log (∑ k, ind (on k) (Real.exp (w k))) - halfLogTwoPi - 1 / 2 * V p j
  have hmax (j : Fin 128) : ∃ q : ℝ, max (opt (c j) (r j)) (opt (c (other j)) (r (other j))) = (q : EReal) := by
    obtain ⟨q, hq⟩ := max_opt (c j) (c (other j)) (r j) (r (other j))
    obtain ⟨p, hp⟩ := hb j
    have hcc : (c j || c (other j)) = true := by
      rw [Bool.or_eq_true]
      exact hp.imp (hc j p (Finset.mem_univ p)) (hc (other j) p (Finset.mem_univ p))
    exact ⟨q, by rw [hq, hcc]; rfl⟩
  choose s hs using hmax
  refine ⟨s, fun a j => ?_, fun l => EReal.coe_injective ?_⟩
  · rw [shift_apply]
    simp only [log_peak x2 x3 x4 V h2 hon h3 h4, hr, hs, EReal.coe_mul]
  · have hlo : other ⟨l.val, by omega⟩ = ⟨64 + l.val, by omega⟩ := dif_pos l.isLt
    have hhi : other ⟨64 + l.val, by omega⟩ = ⟨l.val, by omega⟩ :=
      (dif_neg (by show ¬ 64 + l.val < 64; omega)).trans (Fin.ext (Nat.add_sub_cancel_left 64 l.val))
    rw [← hs, ← hs, hlo, hhi, max_comm]

end Proper

section Improper

variable {x : Fin 128 → EReal} {X : Fin 64 → Fin 128 → EReal}
  (hx : Degenerate x) (h3 : ∀ p j, x3 (ix2 p j) = X p j) (h4 : ∀ a j, x4 (ix2 a j) = x j)

include h2 hx h3 h4 in
/-- Without a softmax a component's logarithm at its mean is infinite. -/
theorem log_peak_infinite (p : Fin 64) (j : Fin 128) :
    k0_pay5 (F := Ideal) x4 x2 x3 (ix2 p j) = ⊥ ∨ k0_pay5 (F := Ideal) x4 x2 x3 (ix2 p j) = ⊤ := by
  have hsub (k : Fin 128) := sub_fold_max (x := fun y : Fin 1 × Fin 128 => x y.2)
    (hx.imp (fun ⟨i, hi⟩ => ⟨(0, i), hi⟩) fun h y => h y.2) (0, k)
  have hlog : ∀ y : Ideal .f32, Scalar.log y = Ideal.log y := fun _ => rfl
  pointwise [k0_pay5, k0_pay2]
  simp only [h2, h3, h4, bits_neg_inf, bits_half, named_half_log_2pi, hlog, Finset.univ_unique, Finset.sum_singleton, hsub,
    Ideal.exp_bot, Finset.sum_const_zero, log_zero, EReal.add_bot]
  rw [sub_eq_add_neg (X p j), EReal.neg_bot, ← EReal.coe_mul]
  by_cases hX : X p j = ⊥
  · exact Or.inl (by rw [hX]; rfl)
  · exact Or.inr (by rw [EReal.add_top_of_ne_bot hX]; rfl)

include h2 hx h3 h4 in
/-- Without a softmax a lane's shift is `+∞`, or it is `-∞` and so are the lane's logarithms. -/
theorem shift_infinite (a : Fin 1) (j : Fin 128) :
    k0_pay6 (F := Ideal) x4 x2 x3 (ix2 a j) = ⊤
      ∨ (k0_pay6 (F := Ideal) x4 x2 x3 (ix2 a j) = ⊥ ∧ ∀ p, k0_pay5 (F := Ideal) x4 x2 x3 (ix2 p j) = ⊥) := by
  have hlog2 : 0 < (Real.log 2)⁻¹ := inv_pos.mpr (Real.log_pos one_lt_two)
  have hinf (j : Fin 128) := fold_max_infinite Finset.univ fun p => log_peak_infinite x2 x3 x4 V h2 hx h3 h4 p j
  rw [shift_apply]
  rcases hinf j with h | h
  · rcases hinf (other j) with h' | h'
    · refine Or.inr ⟨by rw [h, h', max_self, EReal.coe_mul_bot_of_pos hlog2], fun p => ?_⟩
      exact le_bot_iff.mp (((Finset.fold_max_le _).mp h.le).2 p (Finset.mem_univ p))
    · exact Or.inl (by rw [h', max_eq_right le_top, EReal.coe_mul_top_of_pos hlog2])
  · exact Or.inl (by rw [h, max_eq_left le_top, EReal.coe_mul_top_of_pos hlog2])

end Improper

end Tables

/-! ## A chunk of 128 rows -/

section Rows

variable (q2 q1 q0 : FVec Ideal S64x128 .f32) (zd : FVec Ideal S128x128 .f32)

/-- A term at a row and lane: two to the power of the quadratic there. -/
theorem term_apply (p : ℕ) (h : p < 64) (b j : Fin 128) :
    Chunk.term q2 q1 q0 zd p h (ix2 b j)
      = Ideal.exp2 (q0 (ix2 ⟨p, h⟩ j) + zd (ix2 b j) * (q1 (ix2 ⟨p, h⟩ j) + zd (ix2 b j) * q2 (ix2 ⟨p, h⟩ j))) := by
  have hrow : ∀ q : FVec Ideal S64x128 .f32, row q p h (ix2 b j) = q (ix2 ⟨p, h⟩ j) := fun q => by
    pointwise [row]
  pointwise [Chunk.term]
  simp only [hrow]
  rfl

/-- The running sum of terms that are real numbers is their real sum. -/
theorem acc_apply (b j : Fin 128) (t : Fin 64 → ℝ)
    (ht : ∀ p : Fin 64, Chunk.term q2 q1 q0 zd p.val p.isLt (ix2 b j) = (t p : EReal)) :
    ∀ (n : ℕ) (h : n ≤ 64), acc q2 q1 q0 zd n h (ix2 b j) = ((∑ p : Fin n, t (Fin.castLE h p) : ℝ) : EReal)
  | 0, _ => by
    pointwise [acc]
    simp
  | n + 1, h => by
    have hs : acc q2 q1 q0 zd (n + 1) h (ix2 b j)
        = acc q2 q1 q0 zd n (Nat.le_of_succ_le h) (ix2 b j) + Chunk.term q2 q1 q0 zd n h (ix2 b j) := rfl
    rw [hs, acc_apply b j t ht n (Nat.le_of_succ_le h), ht ⟨n, h⟩, ← EReal.coe_add, Fin.sum_univ_castSucc]
    rfl

end Rows

/-! ## What a chunk stores -/

/-- The component in row `p`, lane `j` of the tables. -/
def comp (p : Fin 64) (j : Fin 128) : Fin 128 := ⟨p.val * 2 + j.val / 64, by omega⟩

/-- The coordinate in lane `j` of the tables. -/
def lane (j : Fin 128) : Fin 64 := ⟨j.val % 64, by omega⟩

/-- The left half of row `p` belongs to component `2p`. -/
theorem comp_lo (p l : Fin 64) : comp p ⟨l.val, by omega⟩ = ⟨2 * p.val, by omega⟩ :=
  Fin.ext (by simp only [comp]; omega)

/-- The right half of row `p` belongs to component `2p + 1`. -/
theorem comp_hi (p l : Fin 64) : comp p ⟨64 + l.val, by omega⟩ = ⟨2 * p.val + 1, by omega⟩ :=
  Fin.ext (by simp only [comp]; omega)

/-- Lane `l` of the left half is coordinate `l`. -/
theorem lane_lo (l : Fin 64) : lane ⟨l.val, by omega⟩ = l := Fin.ext (by simp only [lane]; omega)

/-- Lane `l` of the right half is coordinate `l`. -/
theorem lane_hi (l : Fin 64) : lane ⟨64 + l.val, by omega⟩ = l := Fin.ext (by simp only [lane]; omega)

/-- The offsets of a load of a whole two-axis array are zero on both axes. -/
theorem offsets_zero : (![0, 0] : Fin 2 → ℕ) = fun _ => 0 := by decide

/-- The kernel loads its tables whole. -/
theorem ld_table (x : Vec Ideal S64x128 .f32) : View.ld x r0_1 = x := View.ld_unit_zero (S := S64x128) offsets_zero _ x

/-- The kernel loads its row of weights whole. -/
theorem ld_row (x : Vec Ideal S1x128 .f32) : View.ld x r0_0 = x := View.ld_unit_zero (S := S1x128) offsets_zero _ x

/-- The five arrays a grid point sees: rows `z` of the argument, and the mixture's means `m` and log-variances `v`, all real
    numbers, and its weights `w`, laid out in pairs. -/
structure Holds (x0 : Vec Ideal S1024x64 .f32) (x1 x2 x3 : Vec Ideal S64x128 .f32) (x4 : Vec Ideal S1x128 .f32)
    (z : Fin 1024 → Fin 64 → ℝ) (m v : Fin 128 → Fin 64 → ℝ) (w : Fin 128 → EReal) : Prop where
  arg : ∀ b l, x0 (ix2 b l) = (z b l : EReal)
  mean : ∀ p j, x1 (ix2 p j) = (m (comp p j) (lane j) : EReal)
  logvar : ∀ p j, x2 (ix2 p j) = (v (comp p j) (lane j) : EReal)
  weight : ∀ p j, x3 (ix2 p j) = w (comp p j)
  row : ∀ a j, x4 (ix2 a j) = w j

section Stored

variable {x0 : Vec Ideal S1024x64 .f32} {x1 x2 x3 : Vec Ideal S64x128 .f32} {x4 : Vec Ideal S1x128 .f32}
  {z : Fin 1024 → Fin 64 → ℝ} {m v : Fin 128 → Fin 64 → ℝ} {w : Fin 128 → EReal}

/-- The shifts are computed from the tables loaded whole. -/
theorem shift_loaded (x0 : Vec Ideal S1024x64 .f32) (x1 x2 x3 : Vec Ideal S64x128 .f32) (x4 : Vec Ideal S1x128 .f32) :
    k0_pay446 x0 x1 x2 x3 x4 = k0_pay6 x4 x2 x3 := by
  unfold k0_pay446
  rw [ld_table, ld_table, ld_row]

/-- If a component is in the mixture, every lane or its other lane holds it. -/
theorem every_lane {on : Fin 128 → Bool} (hon : ∃ k, on k = true) (j : Fin 128) :
    ∃ p, on (comp p j) = true ∨ on (comp p (other j)) = true := by
  obtain ⟨k, hk⟩ := hon
  have h : comp ⟨k.val / 2, by omega⟩ j = k ∨ comp ⟨k.val / 2, by omega⟩ (other j) = k := by
    simp only [comp, other, Fin.ext_iff]
    split <;> simp only <;> omega
  exact ⟨_, h.imp (fun e => (congrArg on e).trans hk) fun e => (congrArg on e).trans hk⟩

/-- A term of the kernel's sum, in row `p` and lane `j`: two to the power of a quadratic whose constant coefficient is the table
    of logarithms at the means, less the shift. -/
theorem kernel_term (H : Holds x0 x1 x2 x3 x4 z m v w) (zb : FVec Ideal S128x64 .f32) (b j : Fin 128) (y : ℝ)
    (hy : twice zb (ix2 b j) = (y : EReal)) (p : Fin 64) :
    Chunk.term (k0_pay448 x0 x1 x2 x3 x4) (k0_pay449 x0 x1 x2 x3 x4) (k0_pay450 x0 x1 x2 x3 x4) (twice zb) p.val p.isLt
        (ix2 b j)
      = Ideal.exp2 ((((Real.log 2)⁻¹ : ℝ) : EReal) * (k0_pay5 x4 x2 x3 (ix2 p j)
            - ((1 / 2 * Real.exp (0 - v (comp p j) (lane j)) * (m (comp p j) (lane j) * m (comp p j) (lane j)) : ℝ) : EReal))
          - k0_pay6 x4 x2 x3 (ix2 0 j)
          + ((y * (2 * (Real.log 2)⁻¹ * (1 / 2 * Real.exp (0 - v (comp p j) (lane j)) * m (comp p j) (lane j))
              + y * (-(Real.log 2)⁻¹ * (1 / 2 * Real.exp (0 - v (comp p j) (lane j))))) : ℝ) : EReal)) := by
  have hm : k0_pay443 x0 x1 x2 x3 x4 = x1 := by
    unfold k0_pay443
    rw [ld_table]
    funext i
    pointwise [k0_pay3]
  have ha : ∀ p j, k0_pay444 x0 x1 x2 x3 x4 (ix2 p j) = ((1 / 2 * Real.exp (0 - v (comp p j) (lane j)) : ℝ) : EReal) := by
    unfold k0_pay444
    rw [ld_table]
    exact half_precision x2 _ H.logvar
  have hc : k0_pay445 x0 x1 x2 x3 x4 = k0_pay5 x4 x2 x3 := by
    unfold k0_pay445
    rw [ld_table, ld_table, ld_row]
  rw [term_apply, hy]
  pointwise [k0_pay448, k0_pay449, k0_pay450, k0_pay447, k0_pay7, k0_pay8, k0_pay9, k0_pay10]
  simp only [hm, H.mean, ha, hc, shift_loaded, named_log2e, named_neg_log2e, named_two_log2e, ← EReal.coe_mul,
    ← EReal.coe_add]

/-- Where the weights have a softmax, a term of the kernel's sum is the exponential of the mixture's term for the component
    there, less the lane's shift. -/
theorem proper_term (H : Holds x0 x1 x2 x3 x4 z m v w) {on : Fin 128 → Bool} {u : Fin 128 → ℝ} (hon : ∃ k, on k = true)
    (hw : ∀ k, w k = opt (on k) (u k)) {s : Fin 128 → ℝ}
    (hs : ∀ a j, k0_pay6 (F := Ideal) x4 x2 x3 (ix2 a j) = (((Real.log 2)⁻¹ * s j : ℝ) : EReal))
    (zb : FVec Ideal S128x64 .f32) (b j : Fin 128) (y : ℝ) (hy : twice zb (ix2 b j) = (y : EReal)) (p : Fin 64) :
    Chunk.term (k0_pay448 x0 x1 x2 x3 x4) (k0_pay449 x0 x1 x2 x3 x4) (k0_pay450 x0 x1 x2 x3 x4) (twice zb) p.val p.isLt
        (ix2 b j)
      = ((ind (on (comp p j)) (Real.exp
            (Mixture.term y (m (comp p j) (lane j)) (v (comp p j) (lane j)) (logWeight on u (comp p j)) - s j)) : ℝ)
          : EReal) := by
  rw [kernel_term H zb b j y hy p, hs, log_peak x2 x3 x4 _ H.logvar hon (fun p j => (H.weight p j).trans (hw _))
      (fun a j => (H.row a j).trans (hw j)),
    opt_sub, mul_opt _ _ (inv_pos.mpr (Real.log_pos one_lt_two)), opt_sub, opt_add, exp2_opt]
  exact congrArg (fun q => ((ind (on (comp p j)) q : ℝ) : EReal)) (two_rpow_quadratic _ _ _ _ _)

/-- Where the weights have no softmax, every term of the kernel's sum is zero. -/
theorem improper_term (H : Holds x0 x1 x2 x3 x4 z m v w) (hw : Degenerate w) (zb : FVec Ideal S128x64 .f32) (b j : Fin 128)
    (y : ℝ) (hy : twice zb (ix2 b j) = (y : EReal)) (p : Fin 64) :
    Chunk.term (k0_pay448 x0 x1 x2 x3 x4) (k0_pay449 x0 x1 x2 x3 x4) (k0_pay450 x0 x1 x2 x3 x4) (twice zb) p.val p.isLt
        (ix2 b j) = ((0 : ℝ) : EReal) := by
  rw [kernel_term H zb b j y hy p]
  rcases shift_infinite x2 x3 x4 _ H.logvar hw H.weight H.row 0 j with h | ⟨h, hp⟩
  · rw [h, sub_top, EReal.bot_add]
    rfl
  · rw [h, hp p, sub_eq_add_neg ⊥, EReal.bot_add, EReal.coe_mul_bot_of_pos (inv_pos.mpr (Real.log_pos one_lt_two)),
      sub_eq_add_neg ⊥, EReal.bot_add, EReal.bot_add]
    rfl

/-- What a chunk stores at lane `l` for its row `b` of `z` is the log-density there. -/
theorem stored_apply (H : Holds x0 x1 x2 x3 x4 z m v w) (zb : FVec Ideal S128x64 .f32) (l : Fin 64) (b : Fin 128) (y : ℝ)
    (hy : zb (ix2 b l) = (y : EReal)) :
    stored x0 x1 x2 x3 x4 zb (ix2 l b) = density y (fun k => m k l) (fun k => v k l) w := by
  have hlo : twice zb (ix2 b ⟨l.val, by omega⟩) = (y : EReal) := by
    pointwise [twice]
    simp [hy]
  have hhi : twice zb (ix2 b ⟨64 + l.val, by omega⟩) = (y : EReal) := by
    pointwise [twice]
    simp [hy]
  have hln2 : (0 : ℝ) < Real.log 2 := Real.log_pos one_lt_two
  unfold stored chunk
  pointwise [store, fold]
  rcases weights_cases w with hw | ⟨hw, hon, hopt⟩
  · rw [acc_apply _ _ _ _ b _ _ (improper_term H hw zb b _ y hlo) 64 le_rfl,
      acc_apply _ _ _ _ b _ _ (improper_term H hw zb b _ y hhi) 64 le_rfl, density, if_pos hw, Finset.sum_const_zero,
      EReal.coe_zero, add_zero, log_zero, named_ln2, named_log2e, EReal.bot_mul_coe_of_pos (inv_pos.mpr hln2), EReal.add_bot,
      EReal.coe_mul_bot_of_pos hln2]
  · obtain ⟨s, hs, hpair⟩ := shift x2 x3 x4 _ H.logvar hon (fun p j => (H.weight p j).trans (hopt _))
      (fun a j => (H.row a j).trans (hopt j)) (every_lane hon)
    rw [acc_apply _ _ _ _ b _ _ (proper_term H hon hopt hs zb b _ y hlo) 64 le_rfl,
      acc_apply _ _ _ _ b _ _ (proper_term H hon hopt hs zb b _ y hhi) 64 le_rfl]
    simp only [Fin.castLE_rfl, id_eq, comp_lo, comp_hi, lane_lo, lane_hi, ← hpair l]
    rw [← EReal.coe_add,
      ← sum_pairs fun k => ind (live w k) (Real.exp
        (Mixture.term y (m k l) (v k l) (logWeight (live w) (fun k => (w k).toReal) k) - s ⟨l.val, by omega⟩)),
      Mixture.log_coe (sum_exp_pos hon _), shift_loaded, hs, named_ln2, named_log2e, ← EReal.coe_mul, ← EReal.coe_add,
      ← EReal.coe_mul, base_two_log, log_sum_exp_shift hon, density, if_neg hw]
    rfl

variable (z m v w) in
/-- A grid point's block, as a function of its index. -/
abbrev tile : S64x1024.Idx → EReal :=
  fun i => density (z (i 1) (i 0)) (fun k => m k (i 0)) (fun k => v k (i 0)) w

/-- Each chunk's store is a piece of that one function: the chunk that begins at row `o` of `z` is stored at column `o` of the
    block. -/
theorem stored_piece (H : Holds x0 x1 x2 x3 x4 z m v w) (o : ℕ) (hi : ∀ a, ![o, 0] a + S128x64.size a ≤ S1024x64.size a)
    (ho : ∀ a, ![0, o] a + S64x128.size a ≤ S64x1024.size a) (x : S64x128.Idx) :
    stored x0 x1 x2 x3 x4 (View.ld x0 (Rect.unit (s := S1024x64) ![o, 0] S128x64.size hi)) x
      = tile z m v w ((Rect.unit (s := S64x1024) ![0, o] S64x128.size ho).emb x) := by
  have hb : o + 128 ≤ 1024 := hi 0
  have hx : (x 1).val < 128 := (x 1).isLt
  have he : (Rect.unit (s := S64x1024) ![0, o] S64x128.size ho).emb x = ix2 (x 0) ⟨o + (x 1).val, by omega⟩ :=
    funext fun a => Fin.ext (by
      match a with
      | ⟨0, _⟩ => exact (Nat.zero_add _).trans (Nat.one_mul _)
      | ⟨1, _⟩ => exact congrArg (o + ·) (Nat.one_mul _))
  rw [he]
  refine (congrArg _ (eq_ix2 x)).trans (stored_apply H _ (x 0) (x 1) (z ⟨o + (x 1).val, by omega⟩ (x 0)) ?_)
  refine Eq.trans ?_ (H.arg _ _)
  exact View.ld_unit_apply_of _ _ _ _ _ _ (fun a => by
    match a with
    | ⟨0, _⟩ => rfl
    | ⟨1, _⟩ => exact (Nat.zero_add _).symm)

/-- What a grid point leaves in its block: at lane `l` and row `r` of its block of `z`, the log-density there. -/
theorem out_apply (H : Holds x0 x1 x2 x3 x4 z m v w) (i : S64x1024.Idx) :
    out0_5 x0 x1 x2 x3 x4 i = tile z m v w i := by
  rw [out_eq]
  refine View.canon_apply_of_pieces (tile z m v w) _ ?_ i (cover0_5 (F := Ideal) ..)
  simp only [List.forall_mem_cons, List.not_mem_nil, false_imp_iff, implies_true, and_true]
  exact ⟨stored_piece H 896 _ _, stored_piece H 768 _ _, stored_piece H 640 _ _, stored_piece H 512 _ _,
    stored_piece H 384 _ _, stored_piece H 256 _ _, stored_piece H 128 _ _, stored_piece H 0 _ _⟩

end Stored

end Cert.KernelIdeal.Block

end
-- ==== Proof.Array.lean ====
/- The kernel's result array, from real arguments: the mixture's log-density at every coordinate of every row. -/
module

public import proofs.«01_k».proof.Proof.Block
public import proofs.«01_k».proof.Proof.Gen.KernelIdeal.Value
public import Idealize.ShloMosaic.Lib.Pipeline.ValueKit
public import Idealize.ShloMosaic.Lib.Claim
public import Idealize.ShloMosaic.Lib.Tactic.CleanTypes

@[expose] public section

set_option maxRecDepth 16384

noncomputable section

namespace Cert.KernelIdeal.Array

open Cert.KernelIdeal Cert.KernelIdeal.Gen Cert.KernelIdeal.Block Cert.Mixture Idealize.ShloMosaic Idealize.ShloMosaic.TcCoe
open Idealize.SL.Sem Pointwise

variable (m : (ℓ : Loc nD τ sig) → Buf (Elt Ideal) ℓ) (c : Dev nD)

/-! ## The tables the program lays out before the kernel -/

/-- The means, in pairs. -/
theorem means_paired (p : Fin 64) (j : Fin 128) :
    V m c main_call0_v0 (ix2 p j) = m ((c : Thread nD τ).loc main_arg1) (ix2 (comp p j) (lane j)) := by
  entry_read
  pointwise
  rfl

/-- The log-variances, in pairs. -/
theorem logvars_paired (p : Fin 64) (j : Fin 128) :
    V m c main_call0_v1 (ix2 p j) = m ((c : Thread nD τ).loc main_arg2) (ix2 (comp p j) (lane j)) := by
  entry_read
  pointwise
  rfl

/-- The weights, in pairs: a component's weight in every lane of its half row. -/
theorem weights_paired (p : Fin 64) (j : Fin 128) :
    V m c main_call0_v5 (ix2 p j) = m ((c : Thread nD τ).loc main_arg3) (ix3 (comp p j) 0 0) := by
  entry_read
  clean_types
  pointwise
  rfl

/-- The weights in one row. -/
theorem weights_row (a : Fin 1) (j : Fin 128) :
    V m c main_call0_v6 (ix2 a j) = m ((c : Thread nD τ).loc main_arg3) (ix3 j 0 0) := by
  entry_read
  pointwise

/-! ## The blocks -/

/-- Which block each window is at: rows of `z` and columns of the result go with the grid point, the tables stay. -/
theorem index : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, t.val] := by
  decide +kernel

/-- Row `r` of grid point `t`'s block of `z` is a row of `z`. -/
theorem row_lt (t : Fin cfg0.N) (r : Fin 1024) : t.val * 1024 + r.val < 4096 := by
  have ht : t.val < 4 := t.isLt
  omega

variable {m c} {z : Fin 4096 → Fin 64 → ℝ} {μ v : Fin 128 → Fin 64 → ℝ} {w : Fin 128 → EReal}
  (hz : ∀ r l, m ((c : Thread nD τ).loc main_arg0) (ix2 r l) = (z r l : EReal))
  (hμ : ∀ k l, m ((c : Thread nD τ).loc main_arg1) (ix2 k l) = (μ k l : EReal))
  (hv : ∀ k l, m ((c : Thread nD τ).loc main_arg2) (ix2 k l) = (v k l : EReal))
  (hw : ∀ k, m ((c : Thread nD τ).loc main_arg3) (ix3 k 0 0) = w k)

include hz hμ hv hw in
/-- Every grid point sees its rows of `z`, and the tables. -/
theorem holds (t : Fin cfg0.N) :
    Holds (iblk m c 0 t) (iblk m c 1 t) (iblk m c 2 t) (iblk m c 3 t) (iblk m c 4 t)
      (fun r l => z ⟨t.val * 1024 + r.val, row_lt t r⟩ l) μ v w where
  arg r l := by
    refine Eq.trans ?_ (hz ⟨t.val * 1024 + r.val, row_lt t r⟩ l)
    blk_ext [iblk, index t, V_main_arg0]
  mean p j := by
    refine Eq.trans ?_ ((means_paired m c p j).trans (hμ _ _))
    blk_ext [iblk, index t]
  logvar p j := by
    refine Eq.trans ?_ ((logvars_paired m c p j).trans (hv _ _))
    blk_ext [iblk, index t]
  weight p j := by
    refine Eq.trans ?_ ((weights_paired m c p j).trans (hw _))
    blk_ext [iblk, index t]
  row a j := by
    refine Eq.trans ?_ ((weights_row m c a j).trans (hw _))
    blk_ext [iblk, index t]

include hz hμ hv hw in
/-- The result array after the run: at lane `l` and row `r`, the log-density of `z r l`. -/
theorem result :
    (dats m 0 c).arrAt 5 cfg0.N
      = fun i : S64x4096.Idx => density (z (i 1) (i 0)) (fun k => μ k (i 0)) (fun k => v k (i 0)) w := by
  refine (dats m 0 c).arrAt_eq_of_covers 5 _ (by decide +kernel) fun t hf y => ?_
  have h0 : ((win0_5.blk t).view.emb y) 0 = y 0 := Fin.ext (by blk_simp [index t])
  have h1 : ((win0_5.blk t).view.emb y) 1 = ⟨t.val * 1024 + (y 1).val, row_lt t (y 1)⟩ := Fin.ext (by blk_simp [index t])
  blk_simp [index t]
  rw [after0_5]
  refine (out_apply (holds hz hμ hv hw t) y).trans ?_
  simp only [tile, h0, h1]
  rfl

end Cert.KernelIdeal.Array

end
-- ==== Proof.Reference.lean ====
/- The reference's result array, from a real `z`, means and log-variances: the log-density at every coordinate of every row. -/
module

public import proofs.«01_k».proof.Proof.Mixture
public import proofs.«01_k».proof.Proof.Gen.ReferenceIdeal.Read
public import Idealize.ShloMosaic.Lib.Pointwise

@[expose] public section

noncomputable section

namespace Cert.ReferenceIdeal.Density

open Cert.ReferenceIdeal Cert.ReferenceIdeal.Gen Cert.ReferenceIdeal.Read Cert.Mixture Idealize.ShloMosaic
open Pointwise

/-- The maximum, from `-∞`, that a reduction takes over one axis, as a maximum over that axis' coordinates. -/
theorem reduce_max {s t u : Shape} {a : Fin s.rank} (y : FVec Ideal s .f32) (init : FVec Ideal u .f32)
    (h' : s.ReducesTo [a] t) (h : s.Reduces [a] t) (hu : 0 < u.numel) (hi : ∀ j, init j = (⊥ : EReal)) (j : t.Idx) :
    Host.reduce FloatOps.maximumf y init h' hu j
      = (Finset.univ : Finset (Fin (s.size a))).fold (max : EReal → EReal → EReal) ⊥ fun k => y (h.lift j k) := by
  refine (Host.reduce_eq_fold_single _ y init h' h hu j).trans ?_
  rw [hi]
  rfl

/-- The reduced axis' coordinate `k`, put back in front of a row and a lane. -/
theorem lift_eq (h : S128x4096x64.Reduces [0] S4096x64) (r : Fin 4096) (l : Fin 64) (k : Fin 128) :
    h.lift (ix2 r l) k = ix3 k r l :=
  funext fun a => Fin.ext (by match a with | ⟨0, _⟩ => rfl | ⟨1, _⟩ => rfl | ⟨2, _⟩ => rfl)

variable {x0 : FVec Ideal S4096x64 .f32} {x1 x2 : FVec Ideal S128x64 .f32} {x3 : FVec Ideal S128x1x1 .f32}
  {z : Fin 4096 → Fin 64 → ℝ} {μ v : Fin 128 → Fin 64 → ℝ} {w : Fin 128 → EReal}
  (hz : ∀ r l, x0 (ix2 r l) = (z r l : EReal)) (hμ : ∀ k l, x1 (ix2 k l) = (μ k l : EReal))
  (hv : ∀ k l, x2 (ix2 k l) = (v k l : EReal)) (hw : ∀ k, x3 (ix3 k 0 0) = w k)

include hw in
/-- The logarithm of a component's softmax weight: the weight less the largest, its exponential divided by the sum of all. -/
theorem log_weight (k : Fin 128) : val_main_v34 (F := Ideal) x3 (ix3 k 0 0)
    = Ideal.log (Ideal.div (Ideal.exp (w k - Finset.univ.fold max ⊥ w)) (∑ j, Ideal.exp (w j - Finset.univ.fold max ⊥ w))) := by
  pointwise [val_main_v34, val_main_v10, val_main_v9, val_main_v8, val_main_v7, val_main_v6, val_main_v5, val_main_v4,
    val_main_v3, val_main_v2, val_main_v1, val_main_v0, val_main_cst, val_main_cst_0, val_main_cst_1]
  simp only [hw, bits_neg_inf, max_bot_left]

include hz hμ hv in
/-- A component's logarithm: the Gaussian's, a real number, and the logarithm of the weight. -/
theorem log_term (k : Fin 128) (r : Fin 4096) (l : Fin 64) :
    val_main_v36 (F := Ideal) x0 x1 x2 x3 (ix3 k r l)
      = ((-(1 / 2) * Real.log (2 * (13176795 / 4194304)) - 1 / 2 * v k l
          - 1 / 2 * Real.exp (-(v k l)) * Real.rpow (z r l - μ k l) 2 : ℝ) : EReal)
        + val_main_v34 (F := Ideal) x3 (ix3 k 0 0) := by
  pointwise [val_main_v36, val_main_v35, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_cst_2, val_main_cst_3, val_main_cst_4, val_main_cst_5, val_main_cst_6, val_main_cst_7]
  simp only [hz, hμ, hv, bits_half, bits_neg_half, bits_two, bits_pi, ← EReal.coe_neg, ← EReal.coe_sub,
    ← EReal.coe_mul, Ideal.exp_coe, Ideal.pow_coe_coe]
  rw [Mixture.log_coe (by positivity)]
  simp only [← EReal.coe_sub, ← EReal.coe_mul]

/-- The largest of the components' logarithms. -/
theorem largest (r : Fin 4096) (l : Fin 64) : val_main_v37 (F := Ideal) x0 x1 x2 x3 (ix2 r l)
    = Finset.univ.fold max ⊥ fun k : Fin 128 => val_main_v36 (F := Ideal) x0 x1 x2 x3 (ix3 k r l) := by
  unfold val_main_v37
  generalize val_main_v36 (F := Ideal) x0 x1 x2 x3 = y
  refine (reduce_max y _ _ (by decide) _ (fun j => bits_neg_inf) _).trans ?_
  exact congrArg (Finset.fold max ⊥ · Finset.univ) (funext fun k => congrArg y (lift_eq _ r l k))

/-- The result from the components' logarithms and a shift. -/
theorem shifted (l : Fin 64) (r : Fin 4096) :
    val_main_v49 (F := Ideal) x0 x1 x2 x3 (ix2 l r)
      = Ideal.log (∑ k, Ideal.exp (val_main_v36 (F := Ideal) x0 x1 x2 x3 (ix3 k r l)
          - val_main_v41 (F := Ideal) x0 x1 x2 x3 (ix2 r l))) + val_main_v41 (F := Ideal) x0 x1 x2 x3 (ix2 r l) := by
  have hi : idx_main_v49 (ix2 l r) = ix2 r l := eq_ix2 _
  have he (k : Fin 128) : val_main_v45 (F := Ideal) x0 x1 x2 x3 (idx_main_v46 (ix2 r l) k)
      = Ideal.exp (val_main_v36 (F := Ideal) x0 x1 x2 x3 (ix3 k r l) - val_main_v41 (F := Ideal) x0 x1 x2 x3 (ix2 r l)) := by
    have h3 : idx_main_v46 (ix2 r l) k = ix3 k r l := eq_ix3 _
    have h2 : idx_main_v42 (idx_main_v43 (ix3 k r l)) = ix2 r l := eq_ix2 _
    rw [h3, val_main_v45_apply, val_main_v44_apply, val_main_v43_apply, val_main_v42_apply, h2, Ideal.hostUnary_exp_def,
      Ideal.subf_def]
  rw [val_main_v49_apply, hi, val_main_v48_apply, val_main_v47_apply, val_main_v46_apply, val_main_cst_11_apply,
    Ideal.addf_def, Ideal.hostUnary_log_def, Ideal.ofBits_def, Ideal.ofBits_zero_f32, zero_add]
  simp only [he]

/-- Whether the largest logarithm is a finite number, as a comparison. -/
theorem finite_test (r : Fin 4096) (l : Fin 64) : val_main_v40 (F := Ideal) x0 x1 x2 x3 (ix2 r l)
    = Ideal.cmp .olt (max (val_main_v37 (F := Ideal) x0 x1 x2 x3 (ix2 r l)) (-(val_main_v37 (F := Ideal) x0 x1 x2 x3 (ix2 r l)))) ⊤ := by
  rw [val_main_v40_apply, val_main_v38_apply, val_main_v39_apply, val_main_cst_9_apply, ← bits_inf]
  rfl

/-- The shift is the largest logarithm where that is a real number. -/
theorem shift_real {r : Fin 4096} {l : Fin 64} {q : ℝ} (hq : val_main_v37 (F := Ideal) x0 x1 x2 x3 (ix2 r l) = (q : EReal)) :
    val_main_v41 (F := Ideal) x0 x1 x2 x3 (ix2 r l) = (q : EReal) := by
  have h : val_main_v40 (F := Ideal) x0 x1 x2 x3 (ix2 r l) = 1#1 := by
    rw [finite_test, hq, ← EReal.coe_neg, max_coe]
    exact cmp_olt.mpr (EReal.coe_lt_top _)
  rw [val_main_v41_apply, h, hq]
  rfl

/-- The shift is zero where the largest logarithm is `-∞`. -/
theorem shift_zero {r : Fin 4096} {l : Fin 64} (hq : val_main_v37 (F := Ideal) x0 x1 x2 x3 (ix2 r l) = (⊥ : EReal)) :
    val_main_v41 (F := Ideal) x0 x1 x2 x3 (ix2 r l) = ((0 : ℝ) : EReal) := by
  have h : val_main_v40 (F := Ideal) x0 x1 x2 x3 (ix2 r l) = 0#1 := by
    rw [finite_test, hq, EReal.neg_bot, max_eq_right bot_le]
    simp [Ideal.cmp]
  rw [val_main_v41_apply, h, val_main_call0_v1_apply, val_main_call0_v0_apply, val_main_cst_10_apply, Ideal.ofBits_def,
    Ideal.ofBits_zero_f32]
  rfl

include hz hμ hv hw in
/-- The reference's result at lane `l` and row `r`. -/
theorem result (l : Fin 64) (r : Fin 4096) :
    val_main_v49 (F := Ideal) x0 x1 x2 x3 (ix2 l r) = density (z r l) (fun k => μ k l) (fun k => v k l) w := by
  rw [shifted]
  rcases weights_cases w with hd | ⟨hd, hon, hopt⟩
  · have ht (k : Fin 128) : val_main_v36 (F := Ideal) x0 x1 x2 x3 (ix3 k r l) = (⊥ : EReal) := by
      rw [log_term hz hμ hv, log_weight hw]
      simp only [sub_fold_max hd, Ideal.exp_bot, Finset.sum_const_zero]
      rw [show Ideal.div 0 0 = ⊥ by simp [Ideal.div], Ideal.log_bot, EReal.add_bot]
    have hs := shift_zero (x0 := x0) (x1 := x1) (x2 := x2) (x3 := x3) (r := r) (l := l) (by
      rw [largest]
      simp only [ht]
      exact le_bot_iff.mp ((Finset.fold_max_le _).mpr ⟨le_rfl, fun _ _ => le_rfl⟩))
    simp only [hs, ht, EReal.coe_zero, sub_zero, Ideal.exp_bot, Finset.sum_const_zero, add_zero]
    rw [density, if_pos hd, log_zero]
  · obtain ⟨M, hM⟩ := fold_max_real hon fun k => (w k).toReal
    have ht (k : Fin 128) : val_main_v36 (F := Ideal) x0 x1 x2 x3 (ix3 k r l)
        = opt (live w k) (term (z r l) (μ k l) (v k l) (logWeight (live w) (fun k => (w k).toReal) k)) := by
      have hf : Finset.univ.fold max ⊥ w = (M : EReal) :=
        (congrArg (Finset.fold max ⊥ · Finset.univ) (funext hopt)).trans hM
      rw [log_term hz hμ hv, log_weight hw, hf]
      have he (j : Fin 128) : Ideal.exp (w j - (M : EReal)) = ((ind (live w j) (Real.exp ((w j).toReal - M)) : ℝ) : EReal) :=
        (congrArg (fun y : EReal => Ideal.exp (y - M)) (hopt j)).trans (by rw [opt_sub, exp_opt])
      simp only [he, sum_coe]
      rw [log_softmax hon (fun k => (w k).toReal) M k, add_opt, term_eq]
    obtain ⟨q, hq⟩ := fold_max_real hon fun k => term (z r l) (μ k l) (v k l) (logWeight (live w) (fun k => (w k).toReal) k)
    have hs := shift_real (x0 := x0) (x1 := x1) (x2 := x2) (x3 := x3) (r := r) (l := l) (q := q) (by
      rw [largest]
      simp only [ht]
      exact hq)
    simp only [hs, ht, opt_sub, exp_opt, sum_coe]
    rw [Mixture.log_coe (sum_exp_pos hon _), ← EReal.coe_add, log_sum_exp_shift hon, density, if_neg hd]
    rfl

end Cert.ReferenceIdeal.Density

end
-- ==== Proof.Finite.lean ====
/- What the precondition gives: every element of `z`, of the means and of the log-variances is a real number. -/
module

public import proofs.«01_k».proof.Defs
public import proofs.«01_k».proof.Proof.Mixture
public import Idealize.ShloMosaic.Lib.Pointwise

@[expose] public section

noncomputable section

namespace Cert.Finite

open Cert.Mixture Idealize.ShloMosaic Pointwise

/-- The shape facts the precondition is stated with. -/
instance facts : Cert.Pre_finite.Facts := ⟨by decide, by decide⟩

/-- An array whose absolute values all compare less than `+∞` holds real numbers only. -/
theorem real_of_below {s u : Shape} {dims : Fin u.rank → Fin s.rank} (h : u.BroadcastsInDim s dims) (x : FVec Ideal s .f32)
    (hx : cmpf .olt (Host.absf x) (broadcastInDim s dims h (constant u .f32 0x7F800000#32)) = fun _ => 1#1) (i : s.Idx) :
    ∃ q : ℝ, x i = (q : EReal) := by
  have hc : Ideal.cmp .olt (max (x i) (-(x i))) (Ideal.ofBits .f32 0x7F800000#32) = 1#1 := congrFun hx i
  exact real_of_abs_lt_top (bits_inf ▸ cmp_olt.mp hc)

/-- Under the precondition a device's `z`, means and log-variances are arrays of real numbers. -/
theorem real_args {m : (ℓ : Loc Cert.KernelIdeal.nD Cert.KernelIdeal.τ Cert.KernelIdeal.sig) → Buf (Elt Ideal) ℓ}
    (hm : Cert.Pre_KernelIdeal_finite m) (c : Dev Cert.KernelIdeal.nD) :
    ∃ (z : Fin 4096 → Fin 64 → ℝ) (μ v : Fin 128 → Fin 64 → ℝ),
      (∀ r l, m ((c.tc : Thread Cert.KernelIdeal.nD Cert.KernelIdeal.τ).loc Cert.KernelIdeal.main_arg0) (ix2 r l) = (z r l : EReal))
      ∧ (∀ k l, m ((c.tc : Thread Cert.KernelIdeal.nD Cert.KernelIdeal.τ).loc Cert.KernelIdeal.main_arg1) (ix2 k l) = (μ k l : EReal))
      ∧ ∀ k l, m ((c.tc : Thread Cert.KernelIdeal.nD Cert.KernelIdeal.τ).loc Cert.KernelIdeal.main_arg2) (ix2 k l) = (v k l : EReal) := by
  obtain ⟨h0, h1, h2⟩ := hm c
  choose z hz using fun (r : Fin 4096) (l : Fin 64) => real_of_below _ _ h0 (ix2 r l)
  choose μ hμ using fun (k : Fin 128) (l : Fin 64) => real_of_below _ _ h1 (ix2 k l)
  choose v hv using fun (k : Fin 128) (l : Fin 64) => real_of_below _ _ h2 (ix2 k l)
  exact ⟨z, μ, v, hz, hμ, hv⟩

end Cert.Finite

end
-- ==== Proof.lean ====
/- The certificate's claims: each program runs and leaves its arguments as they were, the idealized kernel is the kernel with
   its constants named, and, for a `z`, means and log-variances that are real numbers and any weights, the idealized kernel and the idealized reference end with the
   same result array. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Finite

@[expose] public section

noncomputable section

namespace Cert.Proof

open Idealize.ShloMosaic Idealize.SL.Sem Pointwise

/-- The reference runs, leaves its arguments as they were and every semaphore counter at zero: it declares no semaphore. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The idealized kernel is the kernel with five constants read as the real numbers they stand for. -/
theorem preserves : Cert.preserves_Kernel_KernelIdeal :=
  ⟨IdealRules.named_const.statement Cert.KernelIdeal.κ _ .f32 _ _ rfl,
    IdealRules.named_const.statement Cert.KernelIdeal.κ _ .f32 _ _ rfl,
    IdealRules.named_const.statement Cert.KernelIdeal.κ _ .f32 _ _ rfl,
    IdealRules.named_const.statement Cert.KernelIdeal.κ _ .f32 _ _ rfl,
    IdealRules.named_const.statement Cert.KernelIdeal.κ _ .f32 _ _ rfl⟩

/-- From the same arguments, `z`, the means and the log-variances being real numbers, the idealized kernel and the idealized reference end with the same result. -/
theorem algebraic : Cert.algebraic_KernelIdeal_ReferenceIdeal_pre_finite := by
  intro m g m' g' hm hagree
  refine ⟨fun c => (Cert.KernelIdeal.Gen.dats m 0 c).arrAt 5 Cert.KernelIdeal.cfg0.N, Cert.KernelIdeal.Value.run_blocks m g,
    (θ_run Cert.ReferenceIdeal.defs _ _).mono (fun r h c => ⟨(h c).1.trans ?_, (h c).2⟩) (Cert.ReferenceIdeal.Value.run m' g')⟩
  obtain ⟨z, μ, v, hz, hμ, hv⟩ := Cert.Finite.real_args hm c
  obtain ⟨h0, h1, h2, h3⟩ := hagree c
  refine (Cert.ReferenceIdeal.Read.val_main_v49_eq m' c).trans ?_
  rw [h0, h1, h2, h3]
  refine Eq.trans (funext fun i => ?_) (Cert.KernelIdeal.Array.result hz hμ hv (fun _ => rfl)).symm
  refine (congrArg _ (eq_ix2 i)).trans ?_
  exact Cert.ReferenceIdeal.Density.result hz hμ hv (fun _ => rfl) (i 0) (i 1)

/-- Every claim of the certificate. -/
theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g,
    fun m g _ => Cert.KernelIdeal.Gen.frame m g, fun m g _ => reference_frame m g trivial,
    fun m g _ => reference_frame m g trivial, preserves, algebraic⟩

end Cert.Proof

end
